-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x8192x1024, .f32⟩
  | .hbm, ⟨27, _⟩ => ⟨S4x8192x1024, .f32⟩
  | .hbm, ⟨28, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.KernelValue.lean ====
/-
  What the idealized kernel computes.  The grid has 32 points `(sequence block, batch element)`, the batch innermost.
  Point `t` adds rows `1024 · (t / 4) …` of the embedding table to the same rows of batch element `t % 4`, and writes
  the block back to that place of the result.  So every block is a block of one array, `withTable`, and the blocks
  cover the result: the result array ends at `withTable`.
-/
module

public import proofs.«01_k».proof.Proof.Gen.KernelIdeal.Value
public import Idealize.ShloMosaic.Lib.Pipeline.Value
public import Idealize.ShloMosaic.Lib.ValueIdx

@[expose] public section

noncomputable section

namespace Cert.KernelIdeal.Embedding

open Cert.KernelIdeal Cert.KernelIdeal.Gen
open Idealize.ShloMosaic Idealize.ShloMosaic.TcCoe Idealize.SL.Sem
open Idealize.ShloMosaic.Pipeline (Dat)
open Idealize.ShloMosaic.ValueIdx (ix2)

variable {F : FTy → Type} [FloatOps F]

/-- The whole-array answer: element `(b, s, d)` is `x[b, s, d] + pe[s, d]`. -/
def withTable (x : Vec F S4x8192x1024 .f32) (pe : Vec F S8192x1024 .f32) : Vec F S4x8192x1024 .f32 :=
  fun i => FloatOps.addf (x i) (pe (ix2 (n0 := 8192) (n1 := 1024) (i 1) (i 2)))

/-- The result's block at point `t` is number `(t % 4, t / 4, 0)`. -/
theorem result_index (t : Fin cfg0.N) :
    win0_2.index t 0 = t.val % 4 ∧ win0_2.index t 1 = t.val / 4 ∧ win0_2.index t 2 = 0 :=
  (by decide +kernel : ∀ t : Fin grid0.N,
    win0_2.index t 0 = t.val % 4 ∧ win0_2.index t 1 = t.val / 4 ∧ win0_2.index t 2 = 0) t

/-- Point `t`'s block of the result is exactly the indices whose batch coordinate is `t % 4` and whose sequence
    coordinate lies in the `t / 4`-th run of 1024. -/
theorem mem_result_block (t : Fin cfg0.N) (i : S4x8192x1024.Idx) :
    i ∈ ((cfg0.win 2).blk t).view.set ↔ (i 0).val = t.val % 4 ∧ (i 1).val / 1024 = t.val / 4 := by
  obtain ⟨e0, e1, e2⟩ := result_index t
  have b2 : (i 2).val < 1024 := (i 2).isLt
  change i ∈ ((View.whole main_v0).slice (win0_2.rect t)).set ↔ _
  rw [View.set_slice_whole, Rect.mem_set_unit]
  constructor
  · intro h
    have h0 : win0_2.index t 0 * 1 ≤ (i 0).val ∧ (i 0).val < win0_2.index t 0 * 1 + 1 := h 0
    have h1 : win0_2.index t 1 * 1024 ≤ (i 1).val ∧ (i 1).val < win0_2.index t 1 * 1024 + 1024 := h 1
    rw [e0] at h0
    rw [e1] at h1
    omega
  · rintro ⟨h0, h1⟩ a
    match a with
    | ⟨0, _⟩ =>
      change win0_2.index t 0 * 1 ≤ (i 0).val ∧ (i 0).val < win0_2.index t 0 * 1 + 1
      rw [e0]; omega
    | ⟨1, _⟩ =>
      change win0_2.index t 1 * 1024 ≤ (i 1).val ∧ (i 1).val < win0_2.index t 1 * 1024 + 1024
      rw [e1]; omega
    | ⟨2, _⟩ =>
      change win0_2.index t 2 * 1024 ≤ (i 2).val ∧ (i 2).val < win0_2.index t 2 * 1024 + 1024
      rw [e2]; omega

/-- Every index of the result is in the block of the point `4 · (sequence block) + batch element`, which is
    written back. -/
theorem result_covered (i : S4x8192x1024.Idx) :
    ∃ t : Fin cfg0.N, (cfg0.win 2).flush t = true ∧ i ∈ ((cfg0.win 2).blk t).view.set := by
  have b0 : (i 0).val < 4 := (i 0).isLt
  have b1 : (i 1).val < 8192 := (i 1).isLt
  have hN : cfg0.N = 32 := N_0
  refine ⟨⟨(i 1).val / 1024 * 4 + (i 0).val, by omega⟩, flush0_2 _, ?_⟩
  rw [mem_result_block]
  dsimp only
  omega

variable (m : (ℓ : Loc nD τ sig) → Buf (Elt F) ℓ) (ρ : Dev nD → PrngReg)

/-- `withTable` of device `c`'s two arguments. -/
abbrev answer (c : Dev nD) : Buf (Elt F) ((c : Thread nD τ).loc main_v0) :=
  withTable (m ((c : Thread nD τ).loc main_arg0)) (m ((c : Thread nD τ).loc main_arg1))

/-- What point `t` writes back is its block of `answer`: the input block sits where the result block does, and the
    table's block is at the same sequence rows. -/
theorem flushed_is_block (c : Dev nD) (t : Fin cfg0.N) :
    (dats m 0 c).flushed 2 t = ((cfg0.win 2).blk t).view.read (Elt F) (answer m c) := by
  have z2 : (![0, 0] : Fin 2 → Nat) = fun _ => 0 := by decide
  have z3 : (![0, 0, 0] : Fin 3 → Nat) = fun _ => 0 := by decide
  rw [Value.flushed2]
  unfold out0_2
  rw [View.ld_unit_zero z3, View.ld_unit_zero z2]
  funext y
  have y0 : (y 0).val < 1 := (y 0).isLt
  refine (Value.canon2_eq _ _ y).trans ?_
  have hx : ((cfg0.win 0).blk t).view.emb (Value.ix2_0 y) = ((cfg0.win 2).blk t).view.emb y := by
    funext a
    refine Fin.ext ?_
    match a with
    | ⟨0, _⟩ =>
      change win0_2.index t 0 * 1 + 1 * 0 = win0_2.index t 0 * 1 + 1 * (y 0).val
      omega
    | ⟨1, _⟩ => rfl
    | ⟨2, _⟩ => rfl
  have hpe : ((cfg0.win 1).blk t).view.emb (Value.ix2_1 y)
      = ix2 (n0 := 8192) (n1 := 1024) (((cfg0.win 2).blk t).view.emb y 1) (((cfg0.win 2).blk t).view.emb y 2) := by
    funext a
    match a with
    | ⟨0, _⟩ => rfl
    | ⟨1, _⟩ => rfl
  change FloatOps.addf (m ((c : Thread nD τ).loc main_arg0) (((cfg0.win 0).blk t).view.emb (Value.ix2_0 y)))
      (m ((c : Thread nD τ).loc main_arg1) (((cfg0.win 1).blk t).view.emb (Value.ix2_1 y))) = _
  rw [hx, hpe]
  rfl

/-- The result array after the last point is `answer`. -/
theorem result_final (c : Dev nD) : (dats m 0 c).arrAt 2 cfg0.N = answer m c :=
  (dats m 0 c).arrAt_eq_of_cover 2 (answer m c) (fun t _ => flushed_is_block m c t) result_covered

/-- Every run of the kernel ends with the result at `answer` and both arguments unchanged. -/
theorem run : θ_run defs (onTc (τ := τ) (main (F := F))) ⟨m, fun _ => 0, ρ⟩ fun r => ∀ c : Dev nD,
      r.2.mem ((c : Thread nD τ).loc main_v0) = answer m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_final m c), (h c).2⟩) (Value.run_blocks m ρ)

end Cert.KernelIdeal.Embedding

end
-- ==== Proof.ReferenceValue.lean ====
/-
  What the reference computes.  `jnp.take` of the table at `arange 8192` prints as: wrap the negative positions, gather
  the rows, and replace the rows of positions outside `0 … 8191` by NaN.  Position `s` is the word `s`, never negative
  and never past the end, so nothing is wrapped, nothing is replaced, and row `s` of the lookup is row `s` of the table.
-/
module

public import proofs.«01_k».proof.Proof.Gen.ReferenceIdeal.Run
public import Idealize.ShloMosaic.Lib.Pipeline.Value
public import Idealize.ShloMosaic.Lib.ValueIdx
public import Idealize.ShloMosaic.Lib.ReduceAll

@[expose] public section

noncomputable section

namespace Cert.ReferenceIdeal.Embedding

open Cert.ReferenceIdeal Cert.ReferenceIdeal.Gen
open Idealize.ShloMosaic Idealize.ShloMosaic.TcCoe Idealize.SL.Sem
open Idealize.ShloMosaic.ValueIdx (ix1 ix2 ix3 select_apply)

/-! ## The positions -/

/-- The positions as the lookup reads them: `arange`, with 8192 added to the negative ones. -/
def positions : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32))) (iotaInDim S8192 32 0)

/-- A word below 8192, read as a signed integer, is the number. -/
theorem toInt_small {s : Nat} (h : s < 8192) : (BitVec.ofNat 32 s).toInt = s := by
  rw [BitVec.toInt_eq_toNat_of_lt (by rw [BitVec.toNat_ofNat]; omega), BitVec.toNat_ofNat]
  omega

/-- Position `s` is the word `s`: it is not negative, so it is not wrapped. -/
theorem positions_apply (j : S8192.Idx) : positions j = BitVec.ofNat 32 (j 0).val := by
  have hj : (j 0).val < 8192 := (j 0).isLt
  have hneg : IntOp.cmpi .slt (BitVec.ofNat 32 (j 0).val) 0#32 = 0#1 := by
    have : ¬ (BitVec.ofNat 32 (j 0).val).toInt < 0 := by rw [toInt_small hj]; omega
    simp [IntOp.cmpi, BitVec.slt, this]
  change Scalar.select (IntOp.cmpi .slt (BitVec.ofNat 32 (j 0).val) 0#32) _ (BitVec.ofNat 32 (j 0).val) = _
  rw [hneg]
  rfl

/-- The positions as a column, the gather's start indices. -/
def column : IVec S8192x1 32 := broadcastInDim S8192x1 ![0] bcast_S8192_S8192x1_0 positions

/-- Row `s` of the column is the word `s`. -/
theorem column_apply (j : S8192x1.Idx) : column j = BitVec.ofNat 32 (j 0).val := by
  unfold column
  rw [broadcastInDim_apply _ _ _ j (ix1 (n := 8192) (j 0)) (fun a => by match a with | ⟨0, _⟩ => rfl)]
  exact positions_apply _

/-! ## The range mask -/

/-- Which positions lie in `0 … 8191`. -/
def inRange : IVec S8192 1 :=
  Host.reduce IntOp.andi
    (andi (cmpi .sge column (broadcastInDim S8192x1 ![] bcast_S_S8192x1 (constantI S_ 32 0#32)))
      (cmpi .sle column (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- All of them do. -/
theorem inRange_apply (j : S8192.Idx) : inRange j = 1#1 := by
  unfold inRange
  refine Host.reduce_andi_one _ _ _ _ _ rfl fun i => ?_
  have hi : (i 0).val < 8192 := (i 0).isLt
  have hs := toInt_small hi
  change IntOp.andi (IntOp.cmpi .sge (column i) 0#32) (IntOp.cmpi .sle (column i) 8191#32) = 1#1
  rw [column_apply]
  have h1 : (0#32 : BitVec 32).toInt = 0 := by decide
  have h2 : (8191#32 : BitVec 32).toInt = 8191 := by decide
  have a1 : (0 : Int) ≤ (BitVec.ofNat 32 (i 0).val).toInt := by omega
  have a2 : (BitVec.ofNat 32 (i 0).val).toInt ≤ 8191 := by omega
  simp [IntOp.cmpi, IntOp.andi, BitVec.sle, h1, h2, a1, a2]

/-! ## The rows -/

/-- The gather with whole rows as slices, read at `(s, d)`: the table at the row that the start index of `s` names
    (signed, clamped to the table), column `d`. -/
theorem gather_rows {α : Type} (pe : S8192x1024.Idx → α) (idx : IVec S8192x1 32) (y : S8192x1024.Idx) :
    Host.gather gather_S8192x1024_S8192x1_S8192x1024_1_0_n_n_0_1_11024 pe idx y
      = pe (ix2 (n0 := 8192) (n1 := 1024)
          ⟨min (idx (ix2 (n0 := 8192) (n1 := 1) (y 0) 0)).toInt.toNat 8191, by omega⟩ (y 1)) := by
  unfold Host.gather
  refine congrArg pe (funext fun a => Fin.ext ?_)
  let D := gather_S8192x1024_S8192x1_S8192x1024_1_0_n_n_0_1_11024
  change D.start y idx a + D.batchCoord y a + D.offCoord y a = _
  rw [GatherDims.batchCoord_eq_zero _ _ _ List.not_mem_nil]
  match a with
  | ⟨0, h0⟩ =>
    -- the row axis: collapsed, so only the start index moves along it
    have hs : (⟨0, h0⟩ : Fin S8192x1024.rank) ∈ D.startIndexMap := List.mem_singleton.mpr rfl
    have hi : D.siIdx y ⟨List.idxOf (⟨0, h0⟩ : Fin S8192x1024.rank) D.startIndexMap, List.idxOf_lt_length_iff.2 hs⟩
        = ix2 (n0 := 8192) (n1 := 1) (y 0) 0 := by
      funext b
      match b with
      | ⟨0, _⟩ => rfl
      | ⟨1, _⟩ => rfl
    rw [GatherDims.offCoord_eq_zero _ _ _ fun h => ((GatherDims.mem_sKept _ _).mp h).1 (List.mem_singleton.mpr rfl)]
    unfold GatherDims.start
    rw [dif_pos hs, hi]
    rfl
  | ⟨1, h1⟩ =>
    -- the column axis: no start index, the whole row is the slice
    have hn : (⟨1, h1⟩ : Fin S8192x1024.rank) ∉ D.startIndexMap :=
      fun h => absurd (congrArg Fin.val (List.mem_singleton.mp h)) Nat.one_ne_zero
    have hk : (⟨1, h1⟩ : Fin S8192x1024.rank) ∈ D.sKept :=
      (GatherDims.mem_sKept _ _).mpr
        ⟨fun h => absurd (congrArg Fin.val (List.mem_singleton.mp h)) Nat.one_ne_zero, List.not_mem_nil⟩
    unfold GatherDims.start GatherDims.offCoord
    rw [dif_neg hn, dif_pos hk, Nat.zero_add]
    rfl

variable {F : FTy → Type} [FloatOps F]

/-- The lookup: the gathered rows, NaN where the position is out of range. -/
def lookup (pe : Vec F S8192x1024 .f32) : Vec F S8192x1024 .f32 :=
  select (broadcastInDim S8192x1024 ![0] bcast_S8192_S8192x1024_0 inRange)
    (Host.gather gather_S8192x1024_S8192x1_S8192x1024_1_0_n_n_0_1_11024 pe column)
    (broadcastInDim S8192x1024 ![] bcast_S_S8192x1024 (constant S_ .f32 0x7FC00000#32))

/-- Looking up every position in order gives the table. -/
theorem lookup_eq (pe : Vec F S8192x1024 .f32) : lookup pe = pe := by
  funext y
  have hy : (y 0).val < 8192 := (y 0).isLt
  unfold lookup
  rw [select_apply, broadcastInDim_apply _ _ inRange y (ix1 (n := 8192) (y 0))
    (fun a => by match a with | ⟨0, _⟩ => rfl), inRange_apply]
  refine (gather_rows pe column y).trans (congrArg pe (funext fun a => ?_))
  match a with
  | ⟨0, _⟩ =>
    refine Fin.ext ?_
    change min (column (ix2 (n0 := 8192) (n1 := 1) (y 0) 0)).toInt.toNat 8191 = (y 0).val
    rw [column_apply, toInt_small (show (ix2 (n0 := 8192) (n1 := 1) (y 0) 0 0).val < 8192 from hy)]
    change min (y 0).val 8191 = (y 0).val
    omega
  | ⟨1, _⟩ => rfl

/-! ## The run -/

/-- The reference's answer: element `(b, s, d)` is `x[b, s, d] + pe[s, d]`. -/
def withTable (x : Vec F S4x8192x1024 .f32) (pe : Vec F S8192x1024 .f32) : Vec F S4x8192x1024 .f32 :=
  fun i => FloatOps.addf (x i) (pe (ix2 (n0 := 8192) (n1 := 1024) (i 1) (i 2)))

/-- Adding the lookup, repeated over the batch, is `withTable`. -/
theorem add_lookup (x : Vec F S4x8192x1024 .f32) (pe : Vec F S8192x1024 .f32) :
    addf x (broadcastInDim S4x8192x1024 ![0, 1, 2] bcast_S1x8192x1024_S4x8192x1024_0_1_2
      (broadcastInDim S1x8192x1024 ![1, 2] bcast_S8192x1024_S1x8192x1024_1_2 (lookup pe))) = withTable x pe := by
  rw [lookup_eq]
  funext i
  refine congrArg (FloatOps.addf (x i)) ?_
  rw [broadcastInDim_apply _ _ _ i (ix3 (n0 := 1) (n1 := 8192) (n2 := 1024) 0 (i 1) (i 2)) (fun a => by
      match a with | ⟨0, _⟩ => rfl | ⟨1, _⟩ => rfl | ⟨2, _⟩ => rfl),
    broadcastInDim_apply _ _ _ _ (ix2 (n0 := 8192) (n1 := 1024) (i 1) (i 2)) (fun a => by
      match a with | ⟨0, _⟩ => rfl | ⟨1, _⟩ => rfl)]

/-- Every run of the reference ends with the result at `withTable` and both arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = withTable (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (add_lookup _ _), (h c).2⟩) (Value.run m ρ)

end Cert.ReferenceIdeal.Embedding

end
-- ==== Proof.lean ====
/-
  The certificate of the positional-embedding kernel.

  Frames: each program terminates without fault, leaves its arguments as they were and every semaphore counter at zero.
  Idealization: nothing was rewritten.
  Value: over the extended reals the tiled kernel and the plain reference end with the same array,
  `(b, s, d) ↦ x[b, s, d] + pe[s, d]`: `Proof/KernelValue.lean` shows it of the kernel (32 blocks that cover the result),
  `Proof/ReferenceValue.lean` of the reference (the lookup of every position in order is the table).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Lib.Quiescent

@[expose] public section

noncomputable section

namespace Cert.Proof

open Idealize.ShloMosaic Idealize.ShloMosaic.TcCoe Idealize.SL.Sem

/-- The kernel on float words runs, keeps its arguments and ends with every counter at zero. -/
theorem kernel_frame : Cert.quiescent_Kernel := fun m ρ _ => Cert.Kernel.Gen.frame m ρ

/-- So does the kernel over the extended reals. -/
theorem ideal_frame : Cert.quiescent_KernelIdeal := fun m ρ _ => Cert.KernelIdeal.Gen.frame m ρ

/-- So does the reference, which has no semaphore. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Embedding.run (F := Ideal) m ρ)

/-- The ideal program is the kernel, nothing rewritten. -/
theorem ideal_same : Cert.preserves_Kernel_KernelIdeal := trivial

/-- From equal arguments, kernel and reference end with the same array, the sum of the input and the table's rows. -/
theorem same_function : Cert.algebraic_KernelIdeal_ReferenceIdeal := by
  intro m ρ m' ρ' _ hargs
  refine ⟨fun c => Cert.KernelIdeal.Embedding.answer m c, Cert.KernelIdeal.Embedding.run (F := Ideal) m ρ, ?_⟩
  refine (θ_run Cert.ReferenceIdeal.defs _ _).mono (fun _ h c => ⟨(h c).1.trans ?_, (h c).2⟩)
    (Cert.ReferenceIdeal.Embedding.run (F := Ideal) m' ρ')
  rw [(hargs c).1, (hargs c).2]
  rfl

theorem claim : Cert.Claim :=
  ⟨Cert.Kernel.Gen.facts, Cert.KernelIdeal.Gen.facts, Cert.ReferenceIdeal.Gen.facts,
    kernel_frame, ideal_frame, reference_frame, ideal_same, same_function⟩

end Cert.Proof

end
